-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_hot_inputs [hPre_one_hot_inputs : Cert.Pre_one_hot_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_one_hot_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_hot_inputs [hPre_one_hot_inputs : Cert.Pre_one_hot_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_hot_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_hot_inputs [hKernelIdeal : Cert.KernelIdeal.Facts] [hPre_one_hot_inputs : Cert.Pre_one_hot_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_hot_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_hot_inputs [hReferenceIdeal : Cert.ReferenceIdeal.Facts] [hPre_one_hot_inputs : Cert.Pre_one_hot_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_hot_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_one_hot_inputs [hKernelIdeal : Cert.KernelIdeal.Facts] [hReferenceIdeal : Cert.ReferenceIdeal.Facts] [hPre_one_hot_inputs : Cert.Pre_one_hot_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_hot_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_hot_inputs : Cert.Pre_one_hot_inputs.Facts),
    quiescent_Kernel (hKernel := hKernel)
    ∧ quiescent_KernelIdeal (hKernelIdeal := hKernelIdeal)
    ∧ quiescent_KernelIdeal_pre_one_hot_inputs (hKernelIdeal := hKernelIdeal) (hPre_one_hot_inputs := hPre_one_hot_inputs)
    ∧ quiescent_ReferenceIdeal (hReferenceIdeal := hReferenceIdeal)
    ∧ quiescent_ReferenceIdeal_pre_one_hot_inputs (hReferenceIdeal := hReferenceIdeal) (hPre_one_hot_inputs := hPre_one_hot_inputs)
    ∧ preserves_Kernel_KernelIdeal
    ∧ algebraic_KernelIdeal_ReferenceIdeal_pre_one_hot_inputs (hKernelIdeal := hKernelIdeal) (hReferenceIdeal := hReferenceIdeal) (hPre_one_hot_inputs := hPre_one_hot_inputs)
-- ==== Pre_one_hot_inputs.lean ====
abbrev S4096x20 : Shape := ⟨2, ![4096, 20]⟩
abbrev S1000x1000 : Shape := ⟨2, ![1000, 1000]⟩
abbrev S_ : Shape := ⟨0, ![]⟩

class Facts : Prop where
  bcast_S_S1000x1000 : S_.BroadcastsInDim S1000x1000 (![] : Fin 0 → Fin S1000x1000.rank)
  bcast_S_S4096x20 : S_.BroadcastsInDim S4096x20 (![] : Fin 0 → Fin S4096x20.rank)
  reducesTo_S4096x20_S_d0_1 : S4096x20.ReducesTo [0, 1] S_
  h_S_ : 0 < S_.numel
  reducesTo_S1000x1000_S_d0_1 : S1000x1000.ReducesTo [0, 1] S_

variable [Facts]

def fn {F : FTy → Type} [FloatOps F] (main_arg0 : IVec S4096x20 32) (main_arg1 : FVec F S1000x1000 .f32) : IVec S_ 1 :=
  let main_v0 : IVec S1000x1000 32 := iotaInDim S1000x1000 32 0
  let main_v1 : IVec S1000x1000 32 := iotaInDim S1000x1000 32 1
  let main_c : IVec S_ 32 := constantI S_ 32 0#32
  let main_v2 : IVec S1000x1000 32 := broadcastInDim S1000x1000 ![] bcast_S_S1000x1000 main_c
  let main_v3 : IVec S1000x1000 32 := addi main_v0 main_v2
  let main_v4 : IVec S1000x1000 1 := cmpi .eq main_v3 main_v1
  let main_v5 : FVec F S1000x1000 .f32 := uitofp .f32 main_v4
  let main_c_0 : IVec S_ 32 := constantI S_ 32 0#32
  let main_v6 : IVec S4096x20 32 := broadcastInDim S4096x20 ![] bcast_S_S4096x20 main_c_0
  let main_v7 : IVec S4096x20 1 := cmpi .sge main_arg0 main_v6
  let main_c_1 : IVec S_ 32 := constantI S_ 32 1000#32
  let main_v8 : IVec S4096x20 32 := broadcastInDim S4096x20 ![] bcast_S_S4096x20 main_c_1
  let main_v9 : IVec S4096x20 1 := cmpi .slt main_arg0 main_v8
  let main_v10 : IVec S4096x20 1 := andi main_v7 main_v9
  let main_c_2 : IVec S_ 1 := constantI S_ 1 1#1
  let main_v11 : IVec S_ 1 := (fun x v => Host.reduce IntOp.andi x v reducesTo_S4096x20_S_d0_1 h_S_) main_v10 main_c_2
  let main_v12 : IVec S1000x1000 1 := cmpf .oeq main_arg1 main_v5
  let main_c_3 : IVec S_ 1 := constantI S_ 1 1#1
  let main_v13 : IVec S_ 1 := (fun x v => Host.reduce IntOp.andi x v reducesTo_S1000x1000_S_d0_1 h_S_) main_v12 main_c_3
  let main_v14 : IVec S_ 1 := andi main_v11 main_v13
  main_v14
-- ==== Kernel.lean ====
abbrev S4096x20 : Shape := ⟨2, ![4096, 20]⟩
abbrev S1000x1000 : Shape := ⟨2, ![1000, 1000]⟩
abbrev S20x4096 : Shape := ⟨2, ![20, 4096]⟩
abbrev S20x1000x4096 : Shape := ⟨3, ![20, 1000, 4096]⟩
abbrev S20x256 : Shape := ⟨2, ![20, 256]⟩
abbrev S20x1000x256 : Shape := ⟨3, ![20, 1000, 256]⟩
abbrev S20x1x256 : Shape := ⟨3, ![20, 1, 256]⟩
abbrev S4096x1000x20 : Shape := ⟨3, ![4096, 1000, 20]⟩

abbrev nBuf : Space → Nat
  | .hbm => 5
  | .vmem => 4
  | .smem => 0
  | _ => 0

abbrev bufTy : (tb : Table) → Fin (tcTables nBuf tb) → BufTy
  | .hbm, ⟨0, _⟩ => ⟨S4096x20, .i32⟩
  | .hbm, ⟨1, _⟩ => ⟨S1000x1000, .f32⟩
  | .hbm, ⟨2, _⟩ => ⟨S20x4096, .i32⟩
  | .hbm, ⟨3, _⟩ => ⟨S20x1000x4096, .f32⟩
  | .hbm, ⟨4, _⟩ => ⟨S4096x1000x20, .f32⟩
  | .local _ .vmem, ⟨0, _⟩ => ⟨S20x256, .i32⟩
  | .local _ .vmem, ⟨1, _⟩ => ⟨S20x256, .i32⟩
  | .local _ .vmem, ⟨2, _⟩ => ⟨S20x1000x256, .f32⟩
  | .local _ .vmem, ⟨3, _⟩ => ⟨S20x1000x256, .f32⟩
  | _, _ => ⟨S4096x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S20x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x20 : Shape := ⟨2, ![4096, 20]⟩
abbrev S1000x1000 : Shape := ⟨2, ![1000, 1000]⟩
abbrev S81920 : Shape := ⟨1, ![81920]⟩
abbrev S_ : Shape := ⟨0, ![]⟩
abbrev S81920x1 : Shape := ⟨2, ![81920, 1]⟩
abbrev S1 : Shape := ⟨1, ![1]⟩
abbrev S1x1 : Shape := ⟨2, ![1, 1]⟩
abbrev S81920x1000 : Shape := ⟨2, ![81920, 1000]⟩
abbrev S4096x20x1000 : Shape := ⟨3, ![4096, 20, 1000]⟩
abbrev S4096x1000x20 : Shape := ⟨3, ![4096, 1000, 20]⟩

abbrev nBuf : Space → Nat
  | .hbm => 28
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S1000x1000, .f32⟩
  | .hbm, ⟨2, _⟩ => ⟨S81920, .i32⟩
  | .hbm, ⟨3, _⟩ => ⟨S_, .i32⟩
  | .hbm, ⟨4, _⟩ => ⟨S81920, .i32⟩
  | .hbm, ⟨5, _⟩ => ⟨S81920, .i1⟩
  | .hbm, ⟨6, _⟩ => ⟨S_, .i32⟩
  | .hbm, ⟨7, _⟩ => ⟨S81920, .i32⟩
  | .hbm, ⟨8, _⟩ => ⟨S81920, .i32⟩
  | .hbm, ⟨9, _⟩ => ⟨S81920, .i32⟩
  | .hbm, ⟨10, _⟩ => ⟨S81920x1, .i32⟩
  | .hbm, ⟨11, _⟩ => ⟨S1, .i32⟩
  | .hbm, ⟨12, _⟩ => ⟨S_, .i32⟩
  | .hbm, ⟨13, _⟩ => ⟨S81920x1, .i32⟩
  | .hbm, ⟨14, _⟩ => ⟨S81920x1, .i1⟩
  | .hbm, ⟨15, _⟩ => ⟨S1x1, .i32⟩
  | .hbm, ⟨16, _⟩ => ⟨S81920x1, .i32⟩
  | .hbm, ⟨17, _⟩ => ⟨S81920x1, .i1⟩
  | .hbm, ⟨18, _⟩ => ⟨S81920x1, .i1⟩
  | .hbm, ⟨19, _⟩ => ⟨S_, .i1⟩
  | .hbm, ⟨20, _⟩ => ⟨S81920, .i1⟩
  | .hbm, ⟨21, _⟩ => ⟨S81920x1000, .f32⟩
  | .hbm, ⟨22, _⟩ => ⟨S81920x1000, .i1⟩
  | .hbm, ⟨23, _⟩ => ⟨S_, .f32⟩
  | .hbm, ⟨24, _⟩ => ⟨S81920x1000, .f32⟩
  | .hbm, ⟨25, _⟩ => ⟨S81920x1000, .f32⟩
  | .hbm, ⟨26, _⟩ => ⟨S4096x20x1000, .f32⟩
  | .hbm, ⟨27, _⟩ => ⟨S4096x1000x20, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.KernelValue.lean ====
/-
  WHAT THE KERNEL COMPUTES (hand-written, untrusted): its result at `(b, d, l)` is the conversion to f32 of the comparison
  `X[b, l] = d` — the one-hot rows of the indices, their axes exchanged.

  @main transposes the indices `X` i32[4096, 20] to [20, 4096], runs the kernel over sixteen blocks of 256 columns, and
  transposes what the kernel wrote, f32[20, 1000, 4096], to [4096, 1000, 20]. The kernel's run is the generated frame run
  (`Gen.run_main`). Here: one block's payload at an index (`pay_apply`); what a grid point writes back is its block of one
  whole-array function (`flushed_eq`); the blocks cover the array (`cover`), so the array ends holding that function
  (`final_1`); the transposes before and after the kernel, read back (`entry_v0`, `tail_v2`); the run (`run`).
-/
module

public import proofs.«01_k».proof.Proof.Gen.KernelIdeal.Frame
public import Idealize.ShloMosaic.Lib.Pipeline.Value
public import Idealize.ShloMosaic.Lib.StableHlo.Run
public import Idealize.ShloMosaic.Lib.ValueIdxCore

@[expose] public section

set_option maxRecDepth 16384

noncomputable section

namespace Cert.KernelIdeal.OneHot

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The kernel's element for an index word `x` and a class number `d`: the comparison `x = d`, widened and converted. -/
abbrev hot (x : BitVec 32) (d : Nat) : F .f32 :=
  FloatOps.sitofp .f32 ((IntOp.cmpi .eq x (BitVec.ofNat 32 d)).setWidth 32)

/-- What the kernel's array holds after the run, from the transposed indices `y`: at `(l, d, b)` the element of `y[l, b]`
    and `d`. -/
def whole (y : S20x4096.Idx → BitVec 32) : S20x1000x4096.Idx → F .f32 :=
  fun i => hot (y (ix2 (i 0) (i 2))) (i 1).val

/-- What the program returns, from the indices `x`: at `(b, d, l)` the element of `x[b, l]` and `d`. -/
def result (x : S4096x20.Idx → BitVec 32) : S4096x1000x20.Idx → F .f32 :=
  fun i => hot (x (ix2 (i 0) (i 2))) (i 1).val

/-! ## One block -/

/-- The block's payload at `(l, d, b)`: the element of the loaded block's `(l, b)` and the coordinate `d`. -/
theorem pay_apply (v : Vec F S20x256 .i32) (i : S20x1000x256.Idx) :
    k0_pay1 (F := F) v i = hot (v (ix2 (i 0) (i 2))) (i 1).val := by
  unfold k0_pay1
  dsimp only
  have h0 : (i 0).val < 20 := (i 0).isLt
  have h2 : (i 2).val < 256 := (i 2).isLt
  rw [sitofp_apply, extui_apply]
  show FloatOps.sitofp .f32 ((IntOp.cmpi .eq _ _).setWidth 32) = _
  rw [iota_single_apply, shapeCast_self,
    broadcastTo_apply _ broadcasts_S20x1x256_S20x1000x256 i (ix3 (i 0) (0 : Fin 1) (i 2)) (fun a => match a with
      | ⟨0, _⟩ => by show (i 0).val = if (20 : Nat) = 1 then 0 else (i 0).val; rw [if_neg (by decide)]
      | ⟨1, _⟩ => by show 0 = if (1 : Nat) = 1 then 0 else (i 1).val; rw [if_pos rfl]
      | ⟨2, _⟩ => by show (i 2).val = if (256 : Nat) = 1 then 0 else (i 2).val; rw [if_neg (by decide)]),
    shapeCast_apply v shapeCasts_S20x256_S20x1x256 (ix3 (i 0) (0 : Fin 1) (i 2)) (ix2 (i 0) (i 2)) (by
      rw [Shape.rowMajor_val_two, Shape.rowMajor_val_three]
      show (i 0).val * 256 + (i 2).val = ((i 0).val * 1 + 0) * 256 + (i 2).val
      omega)]

/-! ## The array the kernel writes -/

theorem hz2 : (![0, 0] : Fin 2 → Nat) = fun _ => 0 := funext fun a => by fin_cases a <;> rfl
theorem hz3 : (![0, 0, 0] : Fin 3 → Nat) = fun _ => 0 := funext fun a => by fin_cases a <;> rfl

/-- At grid point `t` the input's block is column block `t` and the output's is the block `t` of the last axis. -/
theorem idx_facts : ∀ t : Fin cfg0.N,
    win0_0.index t (0 : Fin 2) = 0 ∧ win0_0.index t (1 : Fin 2) = t.val
    ∧ win0_1.index t (0 : Fin 3) = 0 ∧ win0_1.index t (1 : Fin 3) = 0 ∧ win0_1.index t (2 : Fin 3) = t.val :=
  (by decide +kernel : ∀ t : Fin grid0.N,
    win0_0.index t (0 : Fin 2) = 0 ∧ win0_0.index t (1 : Fin 2) = t.val
    ∧ win0_1.index t (0 : Fin 3) = 0 ∧ win0_1.index t (1 : Fin 3) = 0 ∧ win0_1.index t (2 : Fin 3) = t.val)

/-- What point `t` writes back is its block of the whole-array function of the transposed indices. -/
theorem flushed_eq (c : Dev nD) (t : Fin cfg0.N) :
    (dats m 0 c).flushed 1 t = ((cfg0.win 1).blk t).view.read (Elt F) (whole (F := F) (V m c main_v0)) := by
  show (cfg0.win 1).cut (grid0.coords t) ((dats m 0 c).after 1 t) = _
  rw [after0_1]
  unfold out0_1
  rw [View.canon_unit_zero hz3, View.ld_unit_zero hz2]
  obtain ⟨a0, a1, b0, b1, b2⟩ := idx_facts t
  funext y
  show k0_pay1 (F := F) (iblk m c 0 t) y = whole (F := F) (V m c main_v0) ((win0_1.rect t).emb y)
  rw [pay_apply]
  unfold whole
  have e0 : ((win0_1.rect t).emb y 0 : Nat) = (y 0).val :=
    (win0_1.rect_emb_val t y 0).trans (by rw [b0, Nat.zero_mul, Nat.zero_add])
  have e1 : ((win0_1.rect t).emb y 1 : Nat) = (y 1).val :=
    (win0_1.rect_emb_val t y 1).trans (by rw [b1, Nat.zero_mul, Nat.zero_add])
  have e2 : ((win0_1.rect t).emb y 2 : Nat) = t.val * 256 + (y 2).val :=
    (win0_1.rect_emb_val t y 2).trans (by rw [b2]; rfl)
  rw [e1]
  refine congrArg (fun x => hot (F := F) x (y 1).val) ?_
  show V m c main_v0 ((win0_0.rect t).emb (ix2 (y 0) (y 2))) = _
  refine congrArg (V m c main_v0) (funext fun a => Fin.ext ?_)
  match a with
  | ⟨0, _⟩ => exact ((win0_0.rect_emb_val t _ 0).trans (by rw [a0, Nat.zero_mul, Nat.zero_add]; rfl)).trans e0.symm
  | ⟨1, _⟩ => exact ((win0_0.rect_emb_val t _ 1).trans (by rw [a1]; rfl)).trans e2.symm

/-- An index of the output array is in point `t`'s block when each coordinate is in that block's range. -/
theorem mem_blk (t : Fin cfg0.N) (i : S20x1000x4096.Idx) :
    i ∈ ((cfg0.win 1).blk t).view.set ↔ ∀ a : Fin 3, win0_1.index t a * win0_1.size a ≤ (i a : Nat)
      ∧ (i a : Nat) < win0_1.index t a * win0_1.size a + win0_1.xsize (grid0.coords t) a := by
  show i ∈ ((View.whole main_v1).slice (win0_1.rect t)).set ↔ _
  rw [View.set_slice_whole, Rect.mem_set_unit]
  exact Iff.rfl

/-- Every index of the output array is in the block of the point its last coordinate selects. -/
theorem cover (i : S20x1000x4096.Idx) :
    ∃ t : Fin cfg0.N, (cfg0.win 1).flush t = true ∧ i ∈ ((cfg0.win 1).blk t).view.set := by
  have h0 : (i 0).val < 20 := (i 0).isLt
  have h1 : (i 1).val < 1000 := (i 1).isLt
  have h2 : (i 2).val < 4096 := (i 2).isLt
  have hN : cfg0.N = 16 := N_0
  refine ⟨⟨(i 2).val / 256, by omega⟩, flush0_1 _, ?_⟩
  rw [mem_blk]
  obtain ⟨-, -, b0, b1, b2⟩ := idx_facts ⟨(i 2).val / 256, by omega⟩
  intro a
  match a with
  | ⟨0, _⟩ =>
    show win0_1.index _ 0 * 20 ≤ (i 0).val ∧ (i 0).val < win0_1.index _ 0 * 20 + 20
    rw [b0]; omega
  | ⟨1, _⟩ =>
    show win0_1.index _ 1 * 1000 ≤ (i 1).val ∧ (i 1).val < win0_1.index _ 1 * 1000 + 1000
    rw [b1]; omega
  | ⟨2, _⟩ =>
    show win0_1.index _ 2 * 256 ≤ (i 2).val ∧ (i 2).val < win0_1.index _ 2 * 256 + 256
    rw [b2]
    show (i 2).val / 256 * 256 ≤ (i 2).val ∧ (i 2).val < (i 2).val / 256 * 256 + 256
    omega

/-- The array the kernel writes ends holding the whole-array function of the transposed indices. -/
theorem final_1 (c : Dev nD) : (dats m 0 c).arrAt 1 cfg0.N = whole (F := F) (V m c main_v0) :=
  (dats m 0 c).arrAt_eq_of_cover 1 (whole (F := F) (V m c main_v0)) (fun t _ => flushed_eq m c t) cover

/-! ## The transposes around the kernel -/

/-- The kernel finds the indices transposed. -/
theorem entry_v0 (c : Dev nD) : V m c main_v0
    = transpose S20x4096 [1, 0] (m ((c.tc : Thread nD τ).loc main_arg0)) transposes_S4096x20_S20x4096_1_0 := by
  show StableHlo.after hostOps0 (fun b => m (c, b)) (Proc.devRef .tc main_v0) = _
  after_results

/-- The program's result is the kernel's array transposed. -/
theorem tail_v2 (c : Dev nD) : Pipeline.afterTail₀ cfgs (dats m) 0 (V0 m) [hostOps1] c main_v2
    = transpose S4096x1000x20 [2, 1, 0] (whole (F := F) (V m c main_v0)) transposes_S20x1000x4096_S4096x1000x20_2_1_0 := by
  have h := Pipeline.withArrays_arr spec0 (by decide) c (V0 m c) (fun w => (dats m 0 c).arrAt w cfg0.N) 1
  rw [final_1] at h
  unfold Pipeline.afterTail₀
  show StableHlo.after hostOps1 _ (Proc.devRef .tc main_v2) = _
  after_results
  exact congrArg (fun x => transpose S4096x1000x20 [2, 1, 0] x transposes_S20x1000x4096_S4096x1000x20_2_1_0) h

/-- Transposing the indices, comparing and transposing back is comparing the indices themselves. -/
theorem transposed_whole (x : S4096x20.Idx → BitVec 32) :
    transpose S4096x1000x20 [2, 1, 0] (whole (F := F) (transpose S20x4096 [1, 0] x transposes_S4096x20_S20x4096_1_0))
      transposes_S20x1000x4096_S4096x1000x20_2_1_0 = result (F := F) x := by
  funext i
  rw [transpose_apply [2, 1, 0] _ transposes_S20x1000x4096_S4096x1000x20_2_1_0 i (ix3 (i 2) (i 1) (i 0)) (fun b => match b with
    | ⟨0, _⟩ => rfl
    | ⟨1, _⟩ => rfl
    | ⟨2, _⟩ => rfl)]
  show hot (F := F) (transpose S20x4096 [1, 0] x transposes_S4096x20_S20x4096_1_0 (ix2 (i 2) (i 0))) (i 1).val
    = hot (F := F) (x (ix2 (i 0) (i 2))) (i 1).val
  rw [transpose_apply [1, 0] x transposes_S4096x20_S20x4096_1_0 (ix2 (i 2) (i 0)) (ix2 (i 0) (i 2)) (fun b => match b with
    | ⟨0, _⟩ => rfl
    | ⟨1, _⟩ => rfl)]

/-! ## The run -/

/-- Every execution ends with the result buffer at `result` of the indices, the arguments unchanged. -/
theorem run : θ_run defs (onTc (τ := τ) (main (F := F))) ⟨m, fun _ => 0, ρ⟩ fun r => ∀ c : Dev nD,
      r.2.mem ((c.tc : Thread nD τ).loc main_v2) = result (F := F) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans
        ((tail_v2 m c).trans (by rw [entry_v0]; exact transposed_whole _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.OneHot

end
-- ==== Proof.RefValue.lean ====
/-
  WHAT THE REFERENCE COMPUTES (hand-written, untrusted): where every index is in [0, 1000), its result at `(b, d, l)` is
  row `X[b, l]`, column `d` of the table.

  The reference takes rows of the table at the flattened indices (a negative index is wrapped, a row of an index still out
  of range is filled), reshapes and exchanges the last two axes. Its run and its operations at an index are generated
  (`Read`). Here: the row gather at an index (`gather_rows`); for an index in range the wrap does nothing (`start_eq`) and
  the range test passes (`inside_eq`); the result at an index (`ref_apply`); the run with every counter at zero (`frame`).
-/
module

public import proofs.«01_k».proof.Proof.Gen.ReferenceIdeal.Run
public import proofs.«01_k».proof.Proof.Gen.ReferenceIdeal.Read
public import Idealize.ShloMosaic.Lib.Affine
public import Idealize.ShloMosaic.Lib.Pipeline.Value
public import Idealize.ShloMosaic.Lib.Quiescent
public import Idealize.ShloMosaic.Lib.ReduceAll
public import Idealize.ShloMosaic.Lib.ValueIdxCore

@[expose] public section

noncomputable section

namespace Cert.ReferenceIdeal.OneHot

open Cert.ReferenceIdeal Cert.ReferenceIdeal.Gen Cert.ReferenceIdeal.Read
open Idealize.ShloMosaic Idealize.ShloMosaic.TcCoe Idealize.ShloMosaic.ValueIdx Idealize.SL.Sem

variable {F : FTy → Type} [FloatOps F]

/-! ## The gather -/

/-- The table's rows gathered at a column of row numbers: the result at `(n, d)` is the table at `d` of row `idx[n, 0]`,
    that row read as a signed number and clamped into the table. -/
theorem gather_rows {α : Type} (x : S1000x1000.Idx → α) (idx : IVec S81920x1 32) (n : Fin 81920) (d : Fin 1000) :
    Host.gather gather_S1000x1000_S81920x1_S81920x1000_1_0_n_n_0_1_11000 x idx (ix2 n d)
      = x (ix2 ⟨min (idx (ix2 n (0 : Fin 1))).toInt.toNat 999, by omega⟩ d) := by
  generalize hD : gather_S1000x1000_S81920x1_S81920x1000_1_0_n_n_0_1_11000 = D
  have hcoll : D.collapsedSliceDims = [0] := by subst hD; rfl
  have hbatch : D.operandBatchingDims = [] := by subst hD; rfl
  have hmap : D.startIndexMap = [0] := by subst hD; rfl
  have hb : ∀ a, D.batchCoord (ix2 n d) a = 0 := fun a =>
    D.batchCoord_eq_zero _ a (by rw [hbatch]; exact List.not_mem_nil)
  unfold Host.gather
  refine congrArg x (funext fun a => Fin.ext ?_)
  show D.start (ix2 n d) idx a + D.batchCoord (ix2 n d) a + D.offCoord (ix2 n d) a = _
  rw [hb]
  match a with
  | ⟨0, _⟩ =>
    have hk : (0 : Fin 2) ∉ D.sKept := by rw [GatherDims.mem_sKept, hcoll]; simp
    rw [show (⟨0, _⟩ : Fin S1000x1000.rank) = (0 : Fin 2) from rfl, D.offCoord_eq_zero _ _ hk]
    unfold GatherDims.start
    rw [dif_pos (show (0 : Fin 2) ∈ D.startIndexMap by rw [hmap]; exact List.mem_singleton.mpr rfl)]
    subst hD
    refine congrArg (fun i => min (idx i).toInt.toNat 999) (funext fun b => Fin.ext ?_)
    match b with
    | ⟨0, _⟩ => rfl
    | ⟨1, _⟩ => rfl
  | ⟨1, _⟩ =>
    rw [show (⟨1, _⟩ : Fin S1000x1000.rank) = (1 : Fin 2) from rfl]
    unfold GatherDims.start
    rw [dif_neg (show (1 : Fin 2) ∉ D.startIndexMap by rw [hmap]; decide)]
    unfold GatherDims.offCoord
    rw [dif_pos (show (1 : Fin 2) ∈ D.sKept by rw [GatherDims.mem_sKept, hcoll, hbatch]; decide)]
    subst hD
    show 0 + 0 + d.val = d.val
    omega

/-! ## The indices, in range -/

variable (x0 : (⟨S4096x20, .i32⟩ : BufTy).Contents (Elt F)) (x1 : (⟨S1000x1000, .f32⟩ : BufTy).Contents (Elt F))

/-- An index in range is not negative, so the wrap leaves it: the row number the gather reads is the index itself. -/
theorem start_eq (h : ∀ i, 0 ≤ (x0 i).toInt ∧ (x0 i).toInt < 1000) (n : S81920x1.Idx) :
    val_main_call0_v5 (F := F) x0 n = x0 (idx_main_v0 (idx_main_call0_v5 n)) := by
  rw [val_main_call0_v5_apply, val_main_call0_v4_apply, val_main_call0_v1_apply, val_main_call0_v0_apply,
    val_main_call0_c_apply, val_main_v0_apply]
  have h0 := (h (idx_main_v0 (idx_main_call0_v5 n))).1
  have hne : IntOp.cmpi .slt (x0 (idx_main_v0 (idx_main_call0_v5 n))) 0#32 ≠ 1#1 := fun e => by
    have := IntOp.cmpi_slt.mp e
    rw [show (0#32 : BitVec 32).toInt = 0 from by decide] at this
    omega
  exact if_neg hne

/-- The range test passes at every index in range. -/
theorem inside_eq (h : ∀ i, 0 ≤ (x0 i).toInt ∧ (x0 i).toInt < 1000) (n : S81920.Idx) :
    val_main_call0_v12 (F := F) x0 n = 1#1 := by
  refine Host.reduce_andi_one _ _ _ _ _ rfl fun i => ?_
  rw [val_main_call0_v11_apply, val_main_call0_v7_apply, val_main_call0_v10_apply, start_eq x0 h,
    val_main_call0_v6_apply, val_main_call0_c_2_apply, val_main_call0_v9_apply, val_main_call0_v8_apply,
    val_main_call0_c_1_apply]
  obtain ⟨h0, h1⟩ := h (idx_main_v0 (idx_main_call0_v5 i))
  have e0 : IntOp.cmpi .sge (x0 (idx_main_v0 (idx_main_call0_v5 i))) 0#32 = 1#1 := IntOp.cmpi_sge.mpr (by
    rw [show (0#32 : BitVec 32).toInt = 0 from by decide]; exact h0)
  have e1 : IntOp.cmpi .sle (x0 (idx_main_v0 (idx_main_call0_v5 i))) 999#32 = 1#1 := IntOp.cmpi_sle.mpr (by
    rw [show (999#32 : BitVec 32).toInt = 999 from by decide]; omega)
  rw [e0, e1]
  rfl

/-! ## The result at an index -/

/-- With every index in range, row `n` of what the take returns is the table's row of the `n`-th index. -/
theorem take_apply (h : ∀ i, 0 ≤ (x0 i).toInt ∧ (x0 i).toInt < 1000) (n : Fin 81920) (d : Fin 1000) :
    val_main_v1 (F := F) x0 x1 (ix2 n d : S81920x1000.Idx)
      = x1 (ix2 ⟨min (x0 (idx_main_v0 (ix1 n))).toInt.toNat 999, by omega⟩ d) := by
  refine (val_main_v1_apply x0 x1 _).trans ?_
  rw [val_main_call0_v14_apply, inside_eq x0 h]
  refine (if_pos rfl).trans ((gather_rows x1 _ n d).trans ?_)
  have e : val_main_call0_v5 (F := F) x0 (ix2 n (0 : Fin 1)) = x0 (idx_main_v0 (ix1 n)) :=
    (start_eq x0 h _).trans (congrArg x0 (funext fun a => match a with
      | ⟨0, _⟩ => rfl
      | ⟨1, _⟩ => rfl))
  exact congrArg (fun r => x1 (ix2 r d)) (Fin.ext (congrArg (fun w : BitVec 32 => min w.toInt.toNat 999) e))

/-- With every index in range, the result at `(b, d, l)` is the table at row `X[b, l]` and column `d`. -/
theorem ref_apply (h : ∀ i, 0 ≤ (x0 i).toInt ∧ (x0 i).toInt < 1000) (b : Fin 4096) (d : Fin 1000) (l : Fin 20) :
    val_main_v3 (F := F) x0 x1 (ix3 b d l : S4096x1000x20.Idx)
      = x1 (ix2 ⟨min (x0 (ix2 b l)).toInt.toNat 999, by omega⟩ d) := by
  have hb := b.isLt
  have hd := d.isLt
  have hl := l.isLt
  have hn : b.val * 20 + l.val < 81920 := by omega
  have ej : idx_main_v2 (idx_main_v3 (ix3 b d l)) = (ix2 (⟨b.val * 20 + l.val, hn⟩ : Fin 81920) d : S81920x1000.Idx) := by
    funext a
    refine Fin.ext ?_
    match a with
    | ⟨0, _⟩ => show ((b.val * 20 + l.val) * 1000 + d.val) / 1000 = b.val * 20 + l.val; omega
    | ⟨1, _⟩ => show ((b.val * 20 + l.val) * 1000 + d.val) % 1000 = d.val; omega
  have ex : idx_main_v0 (ix1 (⟨b.val * 20 + l.val, hn⟩ : Fin 81920)) = (ix2 b l : S4096x20.Idx) := by
    funext a
    refine Fin.ext ?_
    match a with
    | ⟨0, _⟩ => show (b.val * 20 + l.val) / 20 = b.val; omega
    | ⟨1, _⟩ => show (b.val * 20 + l.val) % 20 = l.val; omega
  refine (val_main_v3_apply x0 x1 _).trans ((val_main_v2_apply x0 x1 _).trans ?_)
  refine (congrArg (val_main_v1 (F := F) x0 x1) ej).trans ((take_apply x0 x1 h _ d).trans ?_)
  exact congrArg (fun r => x1 (ix2 r d)) (Fin.ext (congrArg (fun i => min (x0 i).toInt.toNat 999) ex))

/-! ## The run -/

variable (m : (ℓ : Loc nD τ sig) → Buf (Elt F) ℓ) (ρ : Dev nD → PrngReg)

/-- Every execution ends with the result buffer at the reference's value of the arguments, the arguments unchanged. -/
theorem run : θ_run defs (onTc (τ := τ) (main (F := F))) ⟨m, fun _ => 0, ρ⟩ fun r => ∀ c : Dev nD,
      r.2.mem ((c.tc : Thread nD τ).loc main_v3)
        = val_main_v3 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v3_eq _ _), (h c).2⟩) (Cert.ReferenceIdeal.Value.run m ρ)

/-- Every execution ends with the arguments unchanged and every semaphore counter at zero: the program has none. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

end Cert.ReferenceIdeal.OneHot

end
-- ==== Proof.Inputs.lean ====
/-
  THE PRECONDITION AT AN INDEX (hand-written, untrusted): what `one_hot_inputs` says of the indices and of the table.

  The predicate is the conjunction of two `all`s. Where it holds, every index is in [0, 1000) (`range`), and at the ideal
  instance the table holds 1 on its diagonal and 0 elsewhere (`table`).
-/
module

public import proofs.«01_k».proof.Pre_one_hot_inputs
public import Idealize.ShloMosaic.Lib.Affine
public import Idealize.ShloMosaic.Lib.ReduceAll
public import Idealize.ShloMosaic.Lib.ValueIdxCore
public import Idealize.ShloMosaic.PureOps.Ideal

@[expose] public section

noncomputable section

namespace Cert.Pre_one_hot_inputs

open Idealize.ShloMosaic Idealize.ShloMosaic.ValueIdx

variable [Facts] (x : IVec S4096x20 32) (t : FVec Ideal S1000x1000 .f32)

/-- The result shape of an `all` has one index. -/
instance one_index : Subsingleton S_.Idx := ⟨fun _ _ => funext fun a => a.elim0⟩

/-- Where the precondition holds, every index is at least 0 and below 1000. -/
theorem range (h : fn x t = fun _ => 1#1) (i : S4096x20.Idx) : 0 ≤ (x i).toInt ∧ (x i).toInt < 1000 := by
  have h' := congrFun h (fun a => a.elim0)
  have e := Host.reduce_andi_all _ _ _ _ _ (IntOp.andi_eq_one.mp h').1 i
  obtain ⟨e0, e1⟩ := IntOp.andi_eq_one.mp e
  have g0 := IntOp.cmpi_sge.mp e0
  have g1 := IntOp.cmpi_slt.mp e1
  exact ⟨g0, g1⟩

/-- Where the precondition holds, the table is 1 on its diagonal and 0 elsewhere: at `(r, d)` it is the comparison of the
    two coordinates' words, converted. -/
theorem table (h : fn x t = fun _ => 1#1) (r d : Fin 1000) :
    t (ix2 r d) = (((IntOp.cmpi .eq (IntOp.addi (BitVec.ofNat 32 r.val) 0#32) (BitVec.ofNat 32 d.val)).toNat : ℝ) : EReal) := by
  have h' := congrFun h (fun a => a.elim0)
  have e := Host.reduce_andi_all _ _ _ _ _ (IntOp.andi_eq_one.mp h').2 (ix2 r d)
  by_contra hne
  have e' : BitVec.ofBool (decide (t (ix2 r d)
      = (((IntOp.cmpi .eq (IntOp.addi (BitVec.ofNat 32 r.val) 0#32) (BitVec.ofNat 32 d.val)).toNat : ℝ) : EReal))) = 1#1 := e
  rw [decide_eq_false hne] at e'
  exact absurd e' (by decide)

end Cert.Pre_one_hot_inputs

end
-- ==== Proof.Equation.lean ====
/-
  THE EQUATION (hand-written, untrusted): where the precondition holds, the kernel's result and the reference's are equal at
  the ideal instance.

  At `(b, d, l)` the kernel has the comparison `X[b, l] = d` widened to 32 bits and read as a signed number; the reference
  has the table at row `X[b, l]`, column `d`, which the precondition makes the comparison of the two coordinates read as an
  unsigned bit. The row number is the index itself (`row_word`), and a bit is the same number read either way (`bit_value`).
-/
module

public import proofs.«01_k».proof.Proof.Inputs
public import proofs.«01_k».proof.Proof.KernelValue
public import proofs.«01_k».proof.Proof.RefValue

@[expose] public section

noncomputable section

namespace Cert.OneHotEquation

open Idealize.ShloMosaic Idealize.ShloMosaic.ValueIdx

/-- A bit widened to 32 bits and read as a signed number is the bit read as an unsigned number. -/
theorem bit_value : ∀ c : BitVec 1, (c.setWidth 32).toInt = (c.toNat : Int) := by decide

/-- An index word in [0, 1000) is the word of the row number clamped to the table, plus zero. -/
theorem row_word (x : BitVec 32) (h : 0 ≤ x.toInt ∧ x.toInt < 1000) :
    IntOp.addi (BitVec.ofNat 32 (min x.toInt.toNat 999)) 0#32 = x := by
  have e : min x.toInt.toNat 999 = x.toNat := by
    have := BitVec.toInt_eq_toNat_cond x
    have := x.isLt
    split at * <;> omega
  rw [e]
  show BitVec.ofNat 32 x.toNat + 0#32 = x
  rw [BitVec.add_zero, BitVec.ofNat_toNat, BitVec.setWidth_eq]

variable [Cert.Pre_one_hot_inputs.Facts]

/-- Where the precondition holds, the reference's result is the kernel's. -/
theorem reference_eq_kernel (x : IVec Cert.Pre_one_hot_inputs.S4096x20 32)
    (t : FVec Ideal Cert.Pre_one_hot_inputs.S1000x1000 .f32) (h : Cert.Pre_one_hot_inputs.fn x t = fun _ => 1#1) :
    Cert.ReferenceIdeal.Read.val_main_v3 (F := Ideal) x t = Cert.KernelIdeal.OneHot.result (F := Ideal) x := by
  have hx := Cert.Pre_one_hot_inputs.range x t h
  funext i
  obtain ⟨b, d, l, rfl⟩ : ∃ (b : Fin 4096) (d : Fin 1000) (l : Fin 20), i = ix3 b d l := ⟨i 0, i 1, i 2, eq_ix3 i⟩
  refine (Cert.ReferenceIdeal.OneHot.ref_apply (F := Ideal) x t hx b d l).trans
    ((Cert.Pre_one_hot_inputs.table x t h _ d).trans ?_)
  show (((IntOp.cmpi .eq (IntOp.addi (BitVec.ofNat 32 (min (x (ix2 b l)).toInt.toNat 999)) 0#32)
      (BitVec.ofNat 32 d.val)).toNat : ℝ) : EReal)
    = ((((IntOp.cmpi .eq (x (ix2 b l)) (BitVec.ofNat 32 d.val)).setWidth 32).toInt : ℝ) : EReal)
  rw [row_word _ (hx (ix2 b l)), bit_value, Int.cast_natCast]

end Cert.OneHotEquation

end
-- ==== Proof.lean ====
/-
  The proof of `Cert.Claim` (hand-written, untrusted). The frames of the kernel and of its ideal twin are generated; the
  reference's is `OneHot.frame` (Proof/RefValue.lean). The ideal pass rewrote nothing, so `preserves` is `True`. The algebraic
  claim is the kernel's run (Proof/KernelValue.lean), the reference's run (Proof/RefValue.lean) and the equality of their
  results under the precondition (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_one_hot_inputs
public import proofs.«01_k».proof.Proof.KernelValue
public import proofs.«01_k».proof.Proof.RefValue
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Under the precondition the ideal kernel and the ideal reference, run on the same arguments, return the same array: the
    one-hot comparison of the indices. -/
theorem algebraic : @Cert.algebraic_KernelIdeal_ReferenceIdeal_pre_one_hot_inputs Cert.KernelIdeal.Gen.facts
    Cert.ReferenceIdeal.Gen.facts Cert.Pre_one_hot_inputs.Gen.facts := fun m g m' g' hpre hargs =>
  ⟨fun c => Cert.KernelIdeal.OneHot.result (F := Ideal) (m ((c.tc : Thread Cert.KernelIdeal.nD Cert.KernelIdeal.τ).loc Cert.KernelIdeal.main_arg0)),
    Cert.KernelIdeal.OneHot.run m g,
    (θ_run Cert.ReferenceIdeal.defs _ _).mono (fun _ h c => ⟨(h c).1.trans (by
        rw [(hargs c).1, (hargs c).2]
        exact Cert.OneHotEquation.reference_eq_kernel _ _ (hpre c)), (h c).2⟩)
      (Cert.ReferenceIdeal.OneHot.run m' g')⟩

/-- Every claim: the frames of the three programs (with the precondition and without), `preserves`, and `algebraic`. -/
theorem claim : Cert.Claim :=
  ⟨Cert.Kernel.Gen.facts, Cert.KernelIdeal.Gen.facts, Cert.ReferenceIdeal.Gen.facts, Cert.Pre_one_hot_inputs.Gen.facts,
    fun m g _ => Cert.Kernel.Gen.frame m g,
    fun m g _ => Cert.KernelIdeal.Gen.frame m g,
    fun m g _ => Cert.KernelIdeal.Gen.frame m g,
    fun m g _ => Cert.ReferenceIdeal.OneHot.frame m g,
    fun m g _ => Cert.ReferenceIdeal.OneHot.frame m g,
    trivial,
    algebraic⟩

end Cert.Proof

end
